-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x1024 : Shape := ⟨3, ![6, 256, 1024]⟩
abbrev S_ : Shape := ⟨0, ![]⟩
abbrev S6x256x5120 : Shape := ⟨3, ![6, 256, 5120]⟩
abbrev S1024x5120 : Shape := ⟨2, ![1024, 5120]⟩
abbrev S1x1 : Shape := ⟨2, ![1, 1]⟩
abbrev S1536x1024 : Shape := ⟨2, ![1536, 1024]⟩
abbrev S1536x5120 : Shape := ⟨2, ![1536, 5120]⟩
abbrev S1536x512 : Shape := ⟨2, ![1536, 512]⟩
abbrev S1024x512 : Shape := ⟨2, ![1024, 512]⟩
abbrev S1024x1536 : Shape := ⟨2, ![1024, 1536]⟩
abbrev S1x1536x1024 : Shape := ⟨3, ![1, 1536, 1024]⟩
abbrev S1 : Shape := ⟨1, ![1]⟩
abbrev S1x1x1 : Shape := ⟨3, ![1, 1, 1]⟩

abbrev nBuf : Space → Nat
  | .hbm => 16
  | .vmem => 13
  | .smem => 4
  | _ => 0

abbrev bufTy : (tb : Table) → Fin (tcTables nBuf tb) → BufTy
  | .hbm, ⟨0, _⟩ => ⟨S6x256x1024, .bf16⟩
  | .hbm, ⟨1, _⟩ => ⟨S_, .f32⟩
  | .hbm, ⟨2, _⟩ => ⟨S6x256x5120, .fp8e4m3⟩
  | .hbm, ⟨3, _⟩ => ⟨S_, .f32⟩
  | .hbm, ⟨4, _⟩ => ⟨S1024x5120, .fp8e4m3⟩
  | .hbm, ⟨5, _⟩ => ⟨S_, .f32⟩
  | .hbm, ⟨6, _⟩ => ⟨S1024x5120, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1536x1024, .bf16⟩
  | .hbm, ⟨11, _⟩ => ⟨S1536x5120, .fp8e4m3⟩
  | .hbm, ⟨12, _⟩ => ⟨S1536x5120, .bf16⟩
  | .hbm, ⟨13, _⟩ => ⟨S1024x5120, .f32⟩
  | .hbm, ⟨14, _⟩ => ⟨S1x1, .f32⟩
  | .hbm, ⟨15, _⟩ => ⟨S1536x1024, .fp8e5m2⟩
  | .local _ .vmem, ⟨0, _⟩ => ⟨S1536x1024, .bf16⟩
  | .local _ .vmem, ⟨1, _⟩ => ⟨S1536x512, .fp8e4m3⟩
  | .local _ .vmem, ⟨2, _⟩ => ⟨S1536x512, .fp8e4m3⟩
  | .local _ .vmem, ⟨3, _⟩ => ⟨S1024x512, .fp8e4m3⟩
  | .local _ .vmem, ⟨4, _⟩ => ⟨S1024x512, .fp8e4m3⟩
  | .local _ .vmem, ⟨5, _⟩ => ⟨S1024x512, .f32⟩
  | .local _ .vmem, ⟨6, _⟩ => ⟨S1024x512, .f32⟩
  | .local _ .vmem, ⟨7, _⟩ => ⟨S1536x512, .bf16⟩
  | .local _ .vmem, ⟨8, _⟩ => ⟨S1536x512, .bf16⟩
  | .local _ .vmem, ⟨9, _⟩ => ⟨S1024x512, .f32⟩
  | .local _ .vmem, ⟨10, _⟩ => ⟨S1024x512, .f32⟩
  | .local _ .vmem, ⟨11, _⟩ => ⟨S1536x1024, .fp8e5m2⟩
  | .local _ .vmem, ⟨12, _⟩ => ⟨S1024x1536, .fp8e5m2⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg10_0 : Ref sig .tc := ⟨.vmem, 11, rfl⟩
abbrev cc0_scratch0 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg9_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x1024 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S6x256x1024 : Shape := ⟨3, ![6, 256, 1024]⟩
abbrev S_ : Shape := ⟨0, ![]⟩
abbrev S6x256x5120 : Shape := ⟨3, ![6, 256, 5120]⟩
abbrev S1024x5120 : Shape := ⟨2, ![1024, 5120]⟩
abbrev S1x1 : Shape := ⟨2, ![1, 1]⟩
abbrev S1536x1024 : Shape := ⟨2, ![1536, 1024]⟩
abbrev S1536x5120 : Shape := ⟨2, ![1536, 5120]⟩
abbrev S1x1536x1024 : Shape := ⟨3, ![1, 1536, 1024]⟩
abbrev S1 : Shape := ⟨1, ![1]⟩
abbrev S1x1x1 : Shape := ⟨3, ![1, 1, 1]⟩

abbrev nBuf : Space → Nat
  | .hbm => 16
  | .vmem => 11
  | .smem => 0
  | _ => 0

abbrev bufTy : (tb : Table) → Fin (tcTables nBuf tb) → BufTy
  | .hbm, ⟨0, _⟩ => ⟨S6x256x1024, .bf16⟩
  | .hbm, ⟨1, _⟩ => ⟨S_, .f32⟩
  | .hbm, ⟨2, _⟩ => ⟨S6x256x5120, .fp8e4m3⟩
  | .hbm, ⟨3, _⟩ => ⟨S_, .f32⟩
  | .hbm, ⟨4, _⟩ => ⟨S1024x5120, .fp8e4m3⟩
  | .hbm, ⟨5, _⟩ => ⟨S_, .f32⟩
  | .hbm, ⟨6, _⟩ => ⟨S1024x5120, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1536x1024, .bf16⟩
  | .hbm, ⟨11, _⟩ => ⟨S1536x5120, .fp8e4m3⟩
  | .hbm, ⟨12, _⟩ => ⟨S1536x5120, .bf16⟩
  | .hbm, ⟨13, _⟩ => ⟨S1024x5120, .f32⟩
  | .hbm, ⟨14, _⟩ => ⟨S1x1, .f32⟩
  | .hbm, ⟨15, _⟩ => ⟨S1536x1024, .fp8e5m2⟩
  | .local _ .vmem, ⟨0, _⟩ => ⟨S1x1, .f32⟩
  | .local _ .vmem, ⟨1, _⟩ => ⟨S1x1, .f32⟩
  | .local _ .vmem, ⟨2, _⟩ => ⟨S1x1, .f32⟩
  | .local _ .vmem, ⟨3, _⟩ => ⟨S1536x1024, .bf16⟩
  | .local _ .vmem, ⟨4, _⟩ => ⟨S1536x5120, .fp8e4m3⟩
  | .local _ .vmem, ⟨5, _⟩ => ⟨S1024x5120, .fp8e4m3⟩
  | .local _ .vmem, ⟨6, _⟩ => ⟨S1024x5120, .f32⟩
  | .local _ .vmem, ⟨7, _⟩ => ⟨S1536x5120, .bf16⟩
  | .local _ .vmem, ⟨8, _⟩ => ⟨S1024x5120, .f32⟩
  | .local _ .vmem, ⟨9, _⟩ => ⟨S1x1, .f32⟩
  | .local _ .vmem, ⟨10, _⟩ => ⟨S1536x1024, .fp8e5m2⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x1024 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelBody.lean ====
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The one index of a 1×1 block. -/
abbrev o11 : S1x1.Idx := fun a => match a with | ⟨0, _⟩ => (0 : Fin 1) | ⟨1, _⟩ => (0 : Fin 1)

/-- A 1×1 block has one index. -/
theorem eq_o11 (i : S1x1.Idx) : i = o11 := by
  funext a
  match a with
  | ⟨0, _⟩ => exact Subsingleton.elim (α := Fin 1) _ _
  | ⟨1, _⟩ => exact Subsingleton.elim (α := Fin 1) _ _

/-- A load of the whole of a buffer that holds `X` reads `X`. -/
theorem load_whole {κ : Kind} {sp : Space} {S : Shape} {e : EltTy} {mr : Memref sig κ sp S e} (h : mr.IsWhole) (X : S.Idx → Elt F e)
    {off : Fin S.rank → ℕ} (h0 : off = fun _ => 0) (inb : ∀ a, off a + S.size a ≤ S.size a) :
    mr.view.readAt (Elt F) (Rect.unit off S.size inb).toLoadRect (h.unread X) = X := by
  funext x
  exact (congrFun (h.read_unread X) _).trans (congrFun (View.ld_unit_zero h0 inb X) x)

/-- A load of a word of a 1×1 buffer that holds `X` reads the one word of `X`. -/
theorem load_word {κ : Kind} {sp : Space} {e : EltTy} {mr : Memref sig κ sp S1x1 e} (h : mr.IsWhole) (X : S1x1.Idx → Elt F e)
    (B : LoadRect S1x1) (x : B.shape.Idx) : mr.view.readAt (Elt F) B (h.unread X) x = X o11 :=
  (congrFun (h.read_unread X) _).trans (congrArg X (eq_o11 _))

/-- After a store to the whole of a buffer the buffer reads as the vector stored. -/
theorem store_whole {κ : Kind} {sp : Space} {S : Shape} {e : EltTy} (v : View sig κ sp S e) (f : v.ty.Contents (Elt F))
    {off : Fin S.rank → ℕ} (h0 : off = fun _ => 0) (inb : ∀ a, off a + S.size a ≤ S.size a) (w : S.Idx → Elt F e) :
    v.read (Elt F) (v.writes (Elt F) f [(⟨Rect.unit off S.size inb, w⟩ : View.Piece (Elt F) S e)]) = w := by
  exact (View.read_writes_eq_canon v f _ fun y => ⟨_, List.mem_singleton_self _, View.mem_set_unit_zero h0 inb y⟩).trans
    (View.canon_unit_zero h0 inb w)

/-- The offsets `![0, 0]` are zero. -/
theorem off00 : (![0, 0] : Fin 2 → ℕ) = fun _ => 0 := by decide

set_option maxHeartbeats 1000000 in
/-- The body at the first grid point. Whatever the four result buffers and the scratch buffer hold, it leaves the largest
    magnitude of the gradient block in the third, the gradient's codes in the fourth, the transposed codes in the scratch
    buffer, and the two products computed from those codes in the first two; the inputs stay as they were. -/
theorem run_first (c : Dev nD) (i : grid0.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S1536x1024 .bf16) (harg4 : arg4.IsWhole) (arg5 : Memref sig .tc .vmem S1536x512 .fp8e4m3) (harg5 : arg5.IsWhole) (arg6 : Memref sig .tc .vmem S1024x512 .fp8e4m3) (harg6 : arg6.IsWhole) (arg7 : Memref sig .tc .vmem S1024x512 .f32) (harg7 : arg7.IsWhole) (arg8 : Memref sig .tc .vmem S1536x512 .bf16) (harg8 : arg8.IsWhole) (arg9 : Memref sig .tc .vmem S1024x512 .f32) (harg9 : arg9.IsWhole) (arg10 : Memref sig .tc .smem S1x1 .f32) (harg10 : arg10.IsWhole) (arg11 : Memref sig .tc .vmem S1536x1024 .fp8e5m2) (harg11 : arg11.IsWhole) (arg12 : Memref sig .tc .vmem S1024x1536 .fp8e5m2) (harg12 : arg12.IsWhole) (hc0 : k0_cond1 i = 1#1)
    (x0 : Vec F S1x1 .f32) (x1 : Vec F S1x1 .f32) (x2 : Vec F S1x1 .f32) (x3 : Vec F S1536x1024 .bf16) (x4 : Vec F S1536x512 .fp8e4m3) (x5 : Vec F S1024x512 .fp8e4m3) (x6 : Vec F S1024x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay5 (x0 o11) (k0_pay3 x3 (x0 o11)) x5 (x2 o11)) ∗ owns (c : Thread nD τ) arg9 fullShare (k0_pay6 (x0 o11) (k0_pay4 x3 (x0 o11)) x4 x6 (x1 o11)) ∗ owns (c : Thread nD τ) arg10 fullShare (fun _ => k0_pay2 x3) ∗ owns (c : Thread nD τ) arg11 fullShare ((k0_pay3 x3 (x0 o11))) ∗ owns (c : Thread nD τ) arg12 fullShare ((k0_pay4 x3 (x0 o11)))) -∗ K ⟨⟩))
          ⊢ wp frame (wpE (defs₀ (F := F)) Variants.none c none) E (cc0_fp8_linear_bwd i arg1 harg1 arg2 harg2 arg3 harg3 arg4 harg4 arg5 harg5 arg6 harg6 arg7 harg7 arg8 harg8 arg9 harg9 arg10 harg10 arg11 harg11 arg12 harg12) K := by
    intro E K
    simp only [cc0_fp8_linear_bwd_eq_skeleton]; unfold cc0_fp8_linear_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      refine (store_whole _ _ off00 _ _).trans ?_
      rw [(show run_first.sl.v4 c arg1 harg1 arg4 harg4 arg11 x0 x3 = k0_pay3 _ _ from View.readCov_cons_toLoadRect _ _ _ _), load_whole _ _ off00, load_whole _ _ off00, (show run_first.sl.r_1 c arg1 harg1 x0 = x0 o11 from load_word harg1 x0 _ _), (show run_first.sl.r_2 c arg3 harg3 x2 = x2 o11 from load_word harg3 x2 _ _)]
    isplitl [H8]
    · iexists _; isplitr; swap; · iexact H8
      ipureintro
      refine (store_whole _ _ off00 _ _).trans ?_
      rw [(show run_first.sl.v14 c arg1 harg1 arg4 harg4 arg12 x0 x3 = k0_pay4 _ _ from View.readCov_cons_toLoadRect _ _ _ _), load_whole _ _ off00, load_whole _ _ off00, load_whole _ _ off00, (show run_first.sl.r_1 c arg1 harg1 x0 = x0 o11 from load_word harg1 x0 _ _), (show run_first.sl.r_3 c arg2 harg2 x1 = x1 o11 from load_word harg2 x1 _ _)]
    isplitl [H9]
    · iexists _; isplitr; swap; · iexact H9
      ipureintro
      refine (store_whole _ _ off00 _ _).trans ?_
      exact funext fun _ => congrArg k0_pay2 (load_whole _ _ off00 _)
    isplitl [H10]
    · iexists _; isplitr; swap; · iexact H10
      ipureintro
      refine (store_whole _ _ off00 _ _).trans ?_
      rw [load_whole _ _ off00, (show run_first.sl.r_1 c arg1 harg1 x0 = x0 o11 from load_word harg1 x0 _ _)]
    iexists _; isplitr; swap; · iexact HS0
    ipureintro
    refine (store_whole _ _ off00 _ _).trans ?_
    rw [load_whole _ _ off00, (show run_first.sl.r_1 c arg1 harg1 x0 = x0 o11 from load_word harg1 x0 _ _)]

set_option maxHeartbeats 1000000 in
/-- The body at a later grid point. It reads the codes and the transposed codes where the first point left them and
    leaves the two products in the first two result buffers; everything else stays as it was. -/
theorem run_later (c : Dev nD) (i : grid0.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S1536x1024 .bf16) (harg4 : arg4.IsWhole) (arg5 : Memref sig .tc .vmem S1536x512 .fp8e4m3) (harg5 : arg5.IsWhole) (arg6 : Memref sig .tc .vmem S1024x512 .fp8e4m3) (harg6 : arg6.IsWhole) (arg7 : Memref sig .tc .vmem S1024x512 .f32) (harg7 : arg7.IsWhole) (arg8 : Memref sig .tc .vmem S1536x512 .bf16) (harg8 : arg8.IsWhole) (arg9 : Memref sig .tc .vmem S1024x512 .f32) (harg9 : arg9.IsWhole) (arg10 : Memref sig .tc .smem S1x1 .f32) (harg10 : arg10.IsWhole) (arg11 : Memref sig .tc .vmem S1536x1024 .fp8e5m2) (harg11 : arg11.IsWhole) (arg12 : Memref sig .tc .vmem S1024x1536 .fp8e5m2) (harg12 : arg12.IsWhole) (hc0 : ¬k0_cond1 i = 1#1)
    (x0 : Vec F S1x1 .f32) (x1 : Vec F S1x1 .f32) (x2 : Vec F S1x1 .f32) (x3 : Vec F S1536x1024 .bf16) (x4 : Vec F S1536x512 .fp8e4m3) (x5 : Vec F S1024x512 .fp8e4m3) (x6 : Vec F S1024x512 .f32) (x9 : Vec F S1x1 .f32) (x10 : Vec F S1536x1024 .fp8e5m2) (xs : Vec F S1024x1536 .fp8e5m2) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare (x9) ∗ owns (c : Thread nD τ) arg11 fullShare (x10) ∗ owns (c : Thread nD τ) arg12 fullShare (xs)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay5 (x0 o11) x10 x5 (x2 o11)) ∗ owns (c : Thread nD τ) arg9 fullShare (k0_pay6 (x0 o11) xs x4 x6 (x1 o11)) ∗ owns (c : Thread nD τ) arg10 fullShare (x9) ∗ owns (c : Thread nD τ) arg11 fullShare (x10) ∗ owns (c : Thread nD τ) arg12 fullShare (xs)) -∗ K ⟨⟩))
          ⊢ wp frame (wpE (defs₀ (F := F)) Variants.none c none) E (cc0_fp8_linear_bwd i arg1 harg1 arg2 harg2 arg3 harg3 arg4 harg4 arg5 harg5 arg6 harg6 arg7 harg7 arg8 harg8 arg9 harg9 arg10 harg10 arg11 harg11 arg12 harg12) K := by
    intro E K
    simp only [cc0_fp8_linear_bwd_eq_skeleton]; unfold cc0_fp8_linear_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      refine (store_whole _ _ off00 _ _).trans ?_
      rw [load_whole _ _ off00, load_whole _ _ off00, (show run_later.sl.r c arg1 harg1 x0 = x0 o11 from load_word harg1 x0 _ _), (show run_later.sl.r_1 c arg3 harg3 x2 = x2 o11 from load_word harg3 x2 _ _)]
    isplitl [H8]
    · iexists _; isplitr; swap; · iexact H8
      ipureintro
      refine (store_whole _ _ off00 _ _).trans ?_
      rw [load_whole _ _ off00, load_whole _ _ off00, load_whole _ _ off00, (show run_later.sl.r c arg1 harg1 x0 = x0 o11 from load_word harg1 x0 _ _), (show run_later.sl.r_2 c arg2 harg2 x1 = x1 o11 from load_word harg2 x1 _ _)]
    isplitl [H9]
    · iexists _; isplitr; · ipureintro; exact harg10.read_unread _
      iexact H9
    isplitl [H10]
    · iexists _; isplitr; · ipureintro; exact harg11.read_unread _
      iexact H10
    iexists _; isplitr; · ipureintro; exact harg12.read_unread _
    iexact HS0

end Cert.KernelIdeal.Hand

end
-- ==== Proof.KernelRun.lean ====
module

public import proofs.«01_k».proof.Proof.Gen.KernelIdeal.Frame
public import proofs.«01_k».proof.Proof.KernelBody
public import Idealize.ShloMosaic.Lib.Pipeline.TableIdle
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points -/

/-- The body's branch is taken at the first point only. -/
theorem first_iff : ∀ t : Fin cfg0.N, k0_cond1 (grid0.coords t) = 1#1 ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [k0_cond1, e0]
    word_cmp
   : ∀ t : Fin grid0.N, k0_cond1 (grid0.coords t) = 1#1 ↔ t.val % 10 = 0)

/-- A point is below 10. -/
theorem lt_ten (t : Fin cfg0.N) : t.val < 10 := lt_of_lt_of_eq t.isLt (show cfg0.N = 10 from N_0)

/-- The third result's window is left alone at every point but the first. -/
theorem idle9 (t : Fin cfg0.N) : cfg0.idle 9 (grid0.coords t) = !decide (t.val = 0) := by
  show (!(k0_cond1 (grid0.coords t) == 1#1)) = _
  have h := first_iff t; have := lt_ten t
  by_cases h0 : t.val = 0
  · rw [h.mpr (by omega)]; simp [h0]
  · have : k0_cond1 (grid0.coords t) ≠ 1#1 := fun e => h0 (by have := h.mp e; omega)
    simp [h0, this]

/-- The fourth result's window is left alone at every point but the first. -/
theorem idle10 (t : Fin cfg0.N) : cfg0.idle 10 (grid0.coords t) = !decide (t.val = 0) := idle9 t

/-! ## The memrefs the body is called with -/

abbrev ms0 (t : Fin cfg0.N) : Memref sig .tc .smem S1x1 .f32 := win0_0.stage (cfg0.slots t 0)
abbrev ms1 (t : Fin cfg0.N) : Memref sig .tc .smem S1x1 .f32 := win0_1.stage (cfg0.slots t 1)
abbrev ms2 (t : Fin cfg0.N) : Memref sig .tc .smem S1x1 .f32 := win0_2.stage (cfg0.slots t 2)
abbrev ms3 (t : Fin cfg0.N) : Memref sig .tc .vmem S1536x1024 .bf16 := win0_3.stage (cfg0.slots t 3)
abbrev ms4 (t : Fin cfg0.N) : Memref sig .tc .vmem S1536x512 .fp8e4m3 := win0_4.stage (cfg0.slots t 4)
abbrev ms5 (t : Fin cfg0.N) : Memref sig .tc .vmem S1024x512 .fp8e4m3 := win0_5.stage (cfg0.slots t 5)
abbrev ms6 (t : Fin cfg0.N) : Memref sig .tc .vmem S1024x512 .f32 := win0_6.stage (cfg0.slots t 6)
abbrev ms7 (t : Fin cfg0.N) : Memref sig .tc .vmem S1536x512 .bf16 := win0_7.stage (cfg0.slots t 7)
abbrev ms8 (t : Fin cfg0.N) : Memref sig .tc .vmem S1024x512 .f32 := win0_8.stage (cfg0.slots t 8)
abbrev ms9 (t : Fin cfg0.N) : Memref sig .tc .smem S1x1 .f32 := win0_9.stage (cfg0.slots t 9)
abbrev ms10 (t : Fin cfg0.N) : Memref sig .tc .vmem S1536x1024 .fp8e5m2 := win0_10.stage (cfg0.slots t 10)
/-- The scratch buffer, whole. -/
abbrev scM : Memref sig .tc .vmem S1024x1536 .fp8e5m2 := Memref.whole cc0_scratch0

/-- The region's own invariant: the scratch buffer at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the body computes -/

/-- The gradient's scale, the activation's scale and the weight's scale, as the body reads them. -/
abbrev sdy (c : Dev nD) (t : Fin cfg0.N) : Elt F .f32 := (iblk m c 0 t : Vec F S1x1 .f32) o11
abbrev sx (c : Dev nD) (t : Fin cfg0.N) : Elt F .f32 := (iblk m c 1 t : Vec F S1x1 .f32) o11
abbrev sw (c : Dev nD) (t : Fin cfg0.N) : Elt F .f32 := (iblk m c 2 t : Vec F S1x1 .f32) o11

/-- The largest magnitude of the gradient, computed at the first point. -/
def amaxV (c : Dev nD) : Vec F S1x1 .f32 := fun _ => k0_pay2 (iblk m c 3 t0_0)
/-- The gradient's codes, computed at the first point. -/
def codesV (c : Dev nD) : Vec F S1536x1024 .fp8e5m2 := k0_pay3 (iblk m c 3 t0_0) (sdy m c t0_0)
/-- The transposed codes, computed at the first point. -/
def codesTV (c : Dev nD) : Vec F S1024x1536 .fp8e5m2 := k0_pay4 (iblk m c 3 t0_0) (sdy m c t0_0)
/-- The block of the first product that point `t` computes. -/
def dxV (c : Dev nD) (t : Fin cfg0.N) : Vec F S1536x512 .bf16 := k0_pay5 (sdy m c t) (codesV m c) (iblk m c 5 t) (sw m c t)
/-- The block of the accumulated weight gradient that point `t` computes. -/
def mgV (c : Dev nD) (t : Fin cfg0.N) : Vec F S1024x512 .f32 := k0_pay6 (sdy m c t) (codesTV m c) (iblk m c 4 t) (iblk m c 6 t) (sx m c t)

/-- What holds between points: before the first the scratch buffer holds anything, afterwards the transposed codes. -/
def Inv (c : Dev nD) (n : ℕ) : sProp 𝕄 :=
  if n = 0 then Pipeline.ΦA spec0 c
  else iprop(owns (c : Thread nD τ) scM fullShare (codesTV m c) ∗ (∃ r, prngReg c r))

/-- The proof data: the arrays as the region finds them; after point `t` each input's buffer at its block and each
    output's at what the body computes; between points `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dxV m c t
    | ⟨8, _⟩ => mgV m c t
    | ⟨9, _⟩ => amaxV m c
    | ⟨10, _⟩ => codesV m c
  Φ t := Inv m c t.val
  q _ := fullShare
  owed _ := 0

/-- The proof data's invariant is `Inv`. -/
theorem Phi_eq (c : Dev nD) (t : Fin (cfg0.N + 1)) : (dats m 0 c).Φ t = Inv m c t.val := by dsimp only [dats]

theorem Inv_zero (c : Dev nD) : (Inv m c 0 : sProp 𝕄) = Pipeline.ΦA spec0 c := if_pos rfl

theorem Inv_pos (c : Dev nD) {n : ℕ} (h : n ≠ 0) :
    (Inv m c n : sProp 𝕄) = iprop(owns (c : Thread nD τ) scM fullShare (codesTV m c) ∗ (∃ r, prngReg c r)) := if_neg h

/-- The proof data's arrays are the region's. -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = dxV m c t := by dsimp only [dats]
theorem after8 (c : Dev nD) (t : Fin cfg0.N) : (dats m 0 c).after 8 t = mgV m c t := by dsimp only [dats]
theorem after9 (c : Dev nD) (t : Fin cfg0.N) : (dats m 0 c).after 9 t = amaxV m c := by dsimp only [dats]
theorem after10 (c : Dev nD) (t : Fin cfg0.N) : (dats m 0 c).after 10 t = codesV m c := by dsimp only [dats]

/-! What the body finds in an input's buffer: the input's block. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Nothing is written back from the third result's window before the last point, so after the first point its buffer
    holds what the first point stored. -/
theorem fresh9 (t : Fin cfg0.N) (ht : t.val ≠ 0) : cfg0.fresh 9 t.val = false := by
  have h := Cfg.fresh_tab cfg0 9 (fun n => n == 0 || n == 10) rfl (fun t => by
    have h10 := lt_ten t
    have hf := flush0_9 t
    rw [show cfg0.idle 9 (cfg0.grid.coords t) = _ from idle9 t]
    cases hfl : (cfg0.win 9).flush t
    · have h9 : t.val ≠ 9 := fun e => by rw [hf.mpr (by omega)] at hfl; exact Bool.noConfusion hfl
      by_cases h0 : t.val = 0
      · simp [h0]
      · have : t.val ≠ 10 := by omega
        rw [beq_eq_false_iff_ne.mpr h0, beq_eq_false_iff_ne.mpr this]; simp [h0, h9]
    · have := hf.mp hfl
      have h9 : t.val = 9 := by omega
      simp [h9]) t.val t.isLt.le
  rw [h]
  have := lt_ten t
  simp [ht]; omega

/-- What a later point finds in the third result's buffer: what the first point left there. -/
theorem before9 (c : Dev nD) (t : Fin cfg0.N) (ht : t.val ≠ 0) (d) : (dats m 0 c).before 9 t d = amaxV m c := by
  rw [(dats m 0 c).before_out_traj 9 rfl (fun _ _ => rfl) (fun t _ _ _ => by rw [after9, after9]) t.val t rfl d,
    fresh9 t ht, if_neg Bool.false_ne_true, after9]

/-- Nothing is written back from the fourth result's window before the last point, so after the first point its buffer
    holds what the first point stored. -/
theorem fresh10 (t : Fin cfg0.N) (ht : t.val ≠ 0) : cfg0.fresh 10 t.val = false := by
  have h := Cfg.fresh_tab cfg0 10 (fun n => n == 0 || n == 10) rfl (fun t => by
    have h10 := lt_ten t
    have hf := flush0_10 t
    rw [show cfg0.idle 10 (cfg0.grid.coords t) = _ from idle10 t]
    cases hfl : (cfg0.win 10).flush t
    · have h9 : t.val ≠ 9 := fun e => by rw [hf.mpr (by omega)] at hfl; exact Bool.noConfusion hfl
      by_cases h0 : t.val = 0
      · simp [h0]
      · have : t.val ≠ 10 := by omega
        rw [beq_eq_false_iff_ne.mpr h0, beq_eq_false_iff_ne.mpr this]; simp [h0, h9]
    · have := hf.mp hfl
      have h9 : t.val = 9 := by omega
      simp [h9]) t.val t.isLt.le
  rw [h]
  have := lt_ten t
  simp [ht]; omega

/-- What a later point finds in the fourth result's buffer: what the first point left there. -/
theorem before10 (c : Dev nD) (t : Fin cfg0.N) (ht : t.val ≠ 0) (d) : (dats m 0 c).before 10 t d = codesV m c := by
  rw [(dats m 0 c).before_out_traj 10 rfl (fun _ _ => rfl) (fun t _ _ _ => by rw [after10, after10]) t.val t rfl d,
    fresh10 t ht, if_neg Bool.false_ne_true, after10]

/-- Holding the third result's buffer at the first point's value is what the body owes of that window at every point. -/
theorem leaves9 (c : Dev nD) (t : Fin cfg0.N) (d : Vec F S1x1 .f32) :
    owns (c : Thread nD τ) (ms9 t) fullShare (amaxV m c) ⊢ ((dats m 0 c).leavesExact 9 t : sProp 𝕄) := by
  by_cases h0 : t.val = 0
  · rw [show (dats m 0 c).leavesExact 9 t = owns (c : Thread nD τ) (ms9 t) fullShare ((dats m 0 c).after 9 t) from by
      unfold Dat.leavesExact; rw [show cfg0.idle 9 (cfg0.grid.coords t) = _ from idle9 t]; simp [h0], after9]
  · have hi : cfg0.idle 9 (cfg0.grid.coords t) = true := (idle9 t).trans (by simp [h0])
    cases hf : (cfg0.win 9).flush t
    · rw [Dat.leavesExact_idle _ 9 t hi hf]
      iintro H
      iexists d
      rw [before9 m c t h0 d]
      iexact H
    · rw [show (dats m 0 c).leavesExact 9 t = owns (c : Thread nD τ) (ms9 t) fullShare ((dats m 0 c).after 9 t) from by
        unfold Dat.leavesExact; rw [hi, hf], after9]

/-- Holding the fourth result's buffer at the first point's value is what the body owes of that window at every point. -/
theorem leaves10 (c : Dev nD) (t : Fin cfg0.N) (d : Vec F S1536x1024 .fp8e5m2) :
    owns (c : Thread nD τ) (ms10 t) fullShare (codesV m c) ⊢ ((dats m 0 c).leavesExact 10 t : sProp 𝕄) := by
  by_cases h0 : t.val = 0
  · rw [show (dats m 0 c).leavesExact 10 t = owns (c : Thread nD τ) (ms10 t) fullShare ((dats m 0 c).after 10 t) from by
      unfold Dat.leavesExact; rw [show cfg0.idle 10 (cfg0.grid.coords t) = _ from idle10 t]; simp [h0], after10]
  · have hi : cfg0.idle 10 (cfg0.grid.coords t) = true := (idle10 t).trans (by simp [h0])
    cases hf : (cfg0.win 10).flush t
    · rw [Dat.leavesExact_idle _ 10 t hi hf]
      iintro H
      iexists d
      rw [before10 m c t h0 d]
      iexact H
    · rw [show (dats m 0 c).leavesExact 10 t = owns (c : Thread nD τ) (ms10 t) fullShare ((dats m 0 c).after 10 t) from by
        unfold Dat.leavesExact; rw [hi, hf], after10]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(owns (c : Thread nD τ) scM fullShare (codesTV m c) ∗ (∃ r, prngReg c r)) from
    (Phi_eq m c _).trans (Inv_pos m c (Nat.succ_ne_zero _))]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  rw [show (dats m 0 c).leavesExact 6 t = owns (c : Thread nD τ) (ms6 t) fullShare ((dats m 0 c).after 6 t) from rfl, after6]
  rw [show (dats m 0 c).leavesExact 7 t = owns (c : Thread nD τ) (ms7 t) fullShare ((dats m 0 c).after 7 t) from rfl, after7]
  rw [show (dats m 0 c).leavesExact 8 t = owns (c : Thread nD τ) (ms8 t) fullShare ((dats m 0 c).after 8 t) from rfl, after8]
  by_cases h0 : t.val = 0
  · obtain rfl : t = t0_0 := Fin.ext h0
    rw [show (dats m 0 c).Φ (Fin.castSucc t0_0) = Pipeline.ΦA spec0 c from
      (Phi_eq m c _).trans (Inv_zero m c), PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_first c (grid0.coords t0_0) _ _ _ _ _ _ _ _ _ _ _ _ _ _ _ _ _ _ _ _ _ _ _ _ ((first_iff t0_0).mpr rfl) (iblk m c 0 t0_0) (iblk m c 1 t0_0) (iblk m c 2 t0_0) (iblk m c 3 t0_0) (iblk m c 4 t0_0) (iblk m c 5 t0_0) (iblk m c 6 t0_0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iapply (leaves9 m c t0_0 d9); iexact H9
    iapply (leaves10 m c t0_0 d10); iexact H10
  · rw [show (dats m 0 c).Φ t.castSucc = iprop(owns (c : Thread nD τ) scM fullShare (codesTV m c) ∗ (∃ r, prngReg c r)) from
      (Phi_eq m c _).trans (Inv_pos m c h0)]
    simp only [before9 m c t h0, before10 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_later c (grid0.coords t) _ _ _ _ _ _ _ _ _ _ _ _ _ _ _ _ _ _ _ _ _ _ _ _ (fun h => h0 (by have := (first_iff t).mp h; have := lt_ten t; omega)) (iblk m c 0 t) (iblk m c 1 t) (iblk m c 2 t) (iblk m c 3 t) (iblk m c 4 t) (iblk m c 5 t) (iblk m c 6 t) (amaxV m c) (codesV m c) (codesTV m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iapply (leaves9 m c t d9); iexact H9
    iapply (leaves10 m c t d10); iexact H10

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant after the last point gives the region's own back: the scratch buffer's contents are forgotten. -/
theorem Inv_last (c : Dev nD) : (dats m 0 c).Φ (Fin.last cfg0.N) ⊢ (Pipeline.ΦA spec0 c : sProp 𝕄) := by
  rw [show (dats m 0 c).Φ (Fin.last cfg0.N) = iprop(owns (c : Thread nD τ) scM fullShare (codesTV m c) ∗ (∃ r, prngReg c r)) from
    (Phi_eq m c _).trans (Inv_pos m c (by rw [Fin.val_last, show cfg0.N = 10 from N_0]; decide)), PhiA_eq]
  iintro ⟨HS, Hg⟩
  isplitl [HS]
  · iexists _; iexact HS
  iexact Hg

set_option backward.isDefEq.respectTransparency.types false in
/-- Every weakly fair execution of the program ends with each window's array at what the points' write-backs leave in it,
    every other unscoped buffer as the region found it, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = Pipeline.ΦA spec0 c from (Phi_eq m c 0).trans (Inv_zero m c)]) (hout := Inv_last m)

/-- The frame: every argument array ends as it began, and every semaphore counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.KernelFrame.lean ====
module

public import proofs.«01_k».proof.Defs
public import proofs.«01_k».proof.Proof.KernelRun
public import proofs.«01_k».proof.Proof.Gen.Kernel

@[expose] public section

set_option maxRecDepth 16384

noncomputable section

/-! The kernel's frame on machine words. The kernel and its ideal program are one text, printed in two namespaces and
    stated for any reading of the floats, and the frame of the ideal program is proved for any reading: so it is the
    kernel's frame once the two texts are known to be equal, which they are by definition, piece by piece. -/

namespace Cert.Proof

open Idealize.ShloMosaic Idealize.ShloMosaic.TcCoe Idealize.SL.Sem

variable {F : FTy → Type} [FloatOps F]

attribute [local instance] Cert.Kernel.Gen.facts Cert.KernelIdeal.Gen.facts

/-- The two programs have the same entry function. -/
theorem main_eq : Cert.KernelIdeal.main (F := F) = Cert.Kernel.main (F := F) := rfl

/-- The two programs' tables of kernel bodies are the same. -/
theorem table_eq : Cert.KernelIdeal.defs₀ (F := F) = Cert.Kernel.defs₀ (F := F) := by
  unfold Cert.KernelIdeal.defs₀ Cert.Kernel.defs₀
  refine congrArg _ ?_
  funext l
  match l with
  | 0 => rfl

/-- The two programs' whole tables are the same. -/
theorem defs_eq : Cert.KernelIdeal.defs (F := F) = Cert.Kernel.defs (F := F) := by
  unfold Cert.KernelIdeal.defs Cert.Kernel.defs
  exact congrArg (Pipeline.defs (Cert.Kernel.pcfgs (F := F))) table_eq

/-- A run is a run of any equal program. -/
theorem run_congr {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s : MemSt nD τ sig Val} {Q}
    (h : θ_run d (onTc (τ := τ) p) s Q) : θ_run d' (onTc (τ := τ) p') s Q := by
  subst hd hp; exact h

/-- The kernel's frame: every argument array ends as it began, and every semaphore counter is zero at the end. -/
theorem kernel_frame : Cert.quiescent_Kernel (hKernel := Cert.Kernel.Gen.facts) :=
  fun m ρ _ => run_congr defs_eq main_eq (Cert.KernelIdeal.Hand.frame (F := Bits) m ρ)

end Cert.Proof

end
-- ==== Proof.KernelValue.lean ====
module

public import proofs.«01_k».proof.Proof.KernelRun
public import proofs.«01_k».proof.Proof.Gen.ReferenceIdeal.Skeleton
public import Idealize.ShloMosaic.Lib.Pipeline.ValueKit
public import Idealize.ShloMosaic.Lib.Claim

@[expose] public section

set_option maxRecDepth 16384

noncomputable section

/-! The kernel's four result arrays over the extended reals. Each is the reference's own payload of the arrays the
    windows stage: the blocks of 512 columns tile the results, a sum over the transposed codes' second axis is the sum
    over the codes' first, and a scale read as a word is the scale broadcast from its 1×1 array. -/

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' block indices: the scales, the gradient, its magnitude and its codes are whole at every point; the
    others move along their columns with the point. -/
theorem idx : ∀ t : Fin cfg0.N, win0_0.index t = ![0, 0] ∧ win0_1.index t = ![0, 0] ∧ win0_2.index t = ![0, 0]
    ∧ win0_3.index t = ![0, 0] ∧ win0_4.index t = ![0, t.val] ∧ win0_5.index t = ![0, t.val] ∧ win0_6.index t = ![0, t.val]
    ∧ win0_7.index t = ![0, t.val] ∧ win0_8.index t = ![0, t.val] ∧ win0_9.index t = ![0, 0] ∧ win0_10.index t = ![0, 0] :=
  (by decide +kernel : ∀ t : Fin grid0.N, _)

/-! The block of a window that does not move is the whole array the window stages. -/
theorem whole0 (c : Dev nD) (t : Fin cfg0.N) : iblk m c 0 t = V m c main_v0 := by blk_ext! [iblk, idx t]
theorem whole1 (c : Dev nD) (t : Fin cfg0.N) : iblk m c 1 t = V m c main_v1 := by blk_ext! [iblk, idx t]
theorem whole2 (c : Dev nD) (t : Fin cfg0.N) : iblk m c 2 t = V m c main_v2 := by blk_ext! [iblk, idx t]
theorem whole3 (c : Dev nD) (t : Fin cfg0.N) : iblk m c 3 t = V m c main_v3 := by blk_ext! [iblk, idx t]

/-- The largest magnitude, as the reference computes it. -/
theorem amax_eq (D : Vec Ideal S1536x1024 .bf16) : k0_pay2 (F := Ideal) D = Cert.ReferenceIdeal.Gen.k0_pay5 D := by
  unfold k0_pay2 k0_pay1 Cert.ReferenceIdeal.Gen.k0_pay5 Cert.ReferenceIdeal.Gen.k0_pay4
  rfl

/-- The 1×1 array of a word holds the word. -/
theorem word_at (x : Ideal .f32) (y : Cert.ReferenceIdeal.S1x1.Idx) : Cert.ReferenceIdeal.Gen.k0_pay2 (F := Ideal) x y = x := by
  unfold Cert.ReferenceIdeal.Gen.k0_pay2
  rfl

/-- The third result array, as one word everywhere. -/
theorem amaxV_eq (c : Dev nD) : amaxV m c = Cert.ReferenceIdeal.Gen.k0_pay2 (Cert.ReferenceIdeal.Gen.k0_pay5 (V m c main_v3 : Vec Ideal S1536x1024 .bf16)) := by
  funext y
  rw [word_at, amaxV, whole3, amax_eq]

/-- The codes, as the reference computes them from the 1×1 array of the scale. -/
theorem codes_eq (D : Vec Ideal S1536x1024 .bf16) (s : Vec Ideal S1x1 .f32) :
    k0_pay3 (F := Ideal) D (s o11) = Cert.ReferenceIdeal.Gen.k0_pay6 D s := by
  funext y
  pointwise [k0_pay3, k0_pay1, Cert.ReferenceIdeal.Gen.k0_pay6, Cert.ReferenceIdeal.Gen.k0_pay3, Cert.ReferenceIdeal.Gen.k0_pay4]
  rw [eq_o11 (ix2 0 0)]

/-- For any proof data that leaves the same contents in the third result's buffer at every point, those contents are the
    third result array. -/
theorem arr9_of (c : Dev nD) (dat : Dat τ (Elt Ideal) Unit ℕ (UR sig nD τ) ℕ cfg0 c) (x : Vec Ideal S1x1 .f32)
    (h : ∀ t, dat.after 9 t = x) : dat.arrAt 9 cfg0.N = x := by
  refine dat.arrAt_eq_of_covers 9 _ (by decide +kernel) fun t _ y => ?_
  blk_simp
  rw [h]
  blk_ext [idx t]

/-- The third result array. -/
theorem final9 (c : Dev nD) : (dats m 0 c).arrAt 9 (cfgs 0).N
    = Cert.ReferenceIdeal.Gen.k0_pay2 (Cert.ReferenceIdeal.Gen.k0_pay5 (V m c main_v3 : Vec Ideal S1536x1024 .bf16)) :=
  arr9_of c (dats m 0 c) _ fun t => (after9 m c t).trans (amaxV_eq m c)

/-- The fourth result array. -/
theorem final10 (c : Dev nD) : (dats m 0 c).arrAt 10 (cfgs 0).N
    = Cert.ReferenceIdeal.Gen.k0_pay6 (V m c main_v3 : Vec Ideal S1536x1024 .bf16) (V m c main_v0 : Vec Ideal S1x1 .f32) := by
  refine (dats m 0 c).arrAt_eq_of_covers 10 _ (by decide +kernel) fun t _ y => ?_
  blk_simp
  rw [after10, codesV, sdy, whole3, whole0, codes_eq]
  blk_ext [idx t]

/-- The first result's block at a point. -/
theorem point7 (c : Dev nD) (t : Fin cfg0.N) (y : S1536x512.Idx) : dxV m c t y
    = Cert.ReferenceIdeal.Gen.k0_pay8 (V m c main_v3 : Vec Ideal S1536x1024 .bf16) (V m c main_v0 : Vec Ideal S1x1 .f32)
      (V m c main_arg4 : Vec Ideal S1024x5120 .fp8e4m3) (V m c main_v2 : Vec Ideal S1x1 .f32) (((cfg0.win 7).blk t).view.emb y) := by
  rw [dxV, codesV, sdy, sdy, sw, whole3, whole0, whole0, whole2, codes_eq]
  pointwise [k0_pay5, Cert.ReferenceIdeal.Gen.k0_pay8, Cert.ReferenceIdeal.Gen.k0_pay7, Cert.ReferenceIdeal.Gen.k0_pay3]
  rw [eq_o11 (ix2 0 0)]
  blk_point [iblk, V_main_arg4, idx t]

/-- The second result's block at a point. -/
theorem point8 (c : Dev nD) (t : Fin cfg0.N) (y : S1024x512.Idx) : mgV m c t y
    = Cert.ReferenceIdeal.Gen.k0_pay1 (Cert.ReferenceIdeal.Gen.k0_pay3 (V m c main_v0 : Vec Ideal S1x1 .f32))
      (Cert.ReferenceIdeal.Gen.k0_pay9 (V m c main_v3 : Vec Ideal S1536x1024 .bf16) (V m c main_v0 : Vec Ideal S1x1 .f32)
        (V m c main_v4 : Vec Ideal S1536x5120 .fp8e4m3))
      (V m c main_arg6 : Vec Ideal S1024x5120 .f32) (Cert.ReferenceIdeal.Gen.k0_pay10 (V m c main_v1 : Vec Ideal S1x1 .f32))
      (((cfg0.win 8).blk t).view.emb y) := by
  rw [mgV, codesTV, sdy, sdy, sx, whole3, whole0, whole0, whole1]
  pointwise [k0_pay6, k0_pay4, Cert.ReferenceIdeal.Gen.k0_pay1, Cert.ReferenceIdeal.Gen.k0_pay9, Cert.ReferenceIdeal.Gen.k0_pay7, Cert.ReferenceIdeal.Gen.k0_pay3, Cert.ReferenceIdeal.Gen.k0_pay10]
  rw [codes_eq, eq_o11 (ix2 0 0)]
  blk_point [iblk, V_main_arg6, idx t]

/-- The first result array. -/
theorem final7 (c : Dev nD) : (dats m 0 c).arrAt 7 (cfgs 0).N
    = Cert.ReferenceIdeal.Gen.k0_pay8 (V m c main_v3 : Vec Ideal S1536x1024 .bf16) (V m c main_v0 : Vec Ideal S1x1 .f32)
      (V m c main_arg4 : Vec Ideal S1024x5120 .fp8e4m3) (V m c main_v2 : Vec Ideal S1x1 .f32) := by
  refine (dats m 0 c).arrAt_eq_of_covers 7 _ (by decide +kernel) fun t _ y => ?_
  blk_simp
  rw [after7]
  exact point7 m c t y

/-- The second result array. -/
theorem final8 (c : Dev nD) : (dats m 0 c).arrAt 8 (cfgs 0).N
    = Cert.ReferenceIdeal.Gen.k0_pay1 (Cert.ReferenceIdeal.Gen.k0_pay3 (V m c main_v0 : Vec Ideal S1x1 .f32))
      (Cert.ReferenceIdeal.Gen.k0_pay9 (V m c main_v3 : Vec Ideal S1536x1024 .bf16) (V m c main_v0 : Vec Ideal S1x1 .f32)
        (V m c main_v4 : Vec Ideal S1536x5120 .fp8e4m3))
      (V m c main_arg6 : Vec Ideal S1024x5120 .f32) (Cert.ReferenceIdeal.Gen.k0_pay10 (V m c main_v1 : Vec Ideal S1x1 .f32)) := by
  refine (dats m 0 c).arrAt_eq_of_covers 8 _ (by decide +kernel) fun t _ y => ?_
  blk_simp
  rw [after8]
  exact point8 m c t y

end Cert.KernelIdeal.Hand

end
-- ==== Proof.ReferenceValue.lean ====
module

public import proofs.«01_k».proof.Proof.Gen.ReferenceIdeal.Value
public import Idealize.ShloMosaic.Lib.Pipeline.ValueKit
public import Idealize.ShloMosaic.Lib.Claim

@[expose] public section

set_option maxRecDepth 16384

noncomputable section

/-! The reference's four result arrays: one grid point over whole arrays, so each is the body's payload of the arrays
    the windows stage. -/

namespace Cert.ReferenceIdeal.Hand

open Idealize.ShloMosaic Idealize.ShloMosaic.TcCoe Idealize.SL.Sem
open Idealize.ShloMosaic.Pipeline (Dat)
open Cert.ReferenceIdeal Cert.ReferenceIdeal.Gen

variable {F : FTy → Type} [FloatOps F]
variable (m : (ℓ : Loc nD τ sig) → Buf (Elt F) ℓ)

/-- Every window's block index is zero. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-! The block of an input window is the whole array the window stages. -/
theorem whole0 (c : Dev nD) (t : Fin cfg0.N) : iblk m c 0 t = V m c main_v0 := by blk_ext! [iblk, idx t]
theorem whole1 (c : Dev nD) (t : Fin cfg0.N) : iblk m c 1 t = V m c main_v1 := by blk_ext! [iblk, idx t]
theorem whole2 (c : Dev nD) (t : Fin cfg0.N) : iblk m c 2 t = V m c main_v2 := by blk_ext! [iblk, idx t]
theorem whole3 (c : Dev nD) (t : Fin cfg0.N) : iblk m c 3 t = V m c main_v3 := by blk_ext! [iblk, idx t]
theorem whole4 (c : Dev nD) (t : Fin cfg0.N) : iblk m c 4 t = V m c main_v4 := by blk_ext! [iblk, idx t]
theorem whole5 (c : Dev nD) (t : Fin cfg0.N) : iblk m c 5 t = V m c main_arg4 := by blk_ext! [iblk, idx t]
theorem whole6 (c : Dev nD) (t : Fin cfg0.N) : iblk m c 6 t = V m c main_arg6 := by blk_ext! [iblk, idx t]

/-- The first result: the product of the codes and the weight, scaled. -/
theorem final7 (c : Dev nD) : (dats m 0 c).arrAt 7 (cfgs 0).N = k0_pay8 (V m c main_v3) (V m c main_v0) (V m c main_arg4) (V m c main_v2) := by
  refine (dats m 0 c).arrAt_eq_of_after_last 7 t0_0 (by decide +kernel) _ fun j => ?_
  blk_simp
  rw [after0_7]
  frame_out
  rw [whole3, whole0, whole5, whole2]

/-- The second result: the accumulated weight gradient plus the scaled product of the codes and the activations over the tokens. -/
theorem final8 (c : Dev nD) : (dats m 0 c).arrAt 8 (cfgs 0).N = k0_pay1 (k0_pay3 (V m c main_v0)) (k0_pay9 (V m c main_v3) (V m c main_v0) (V m c main_v4)) (V m c main_arg6) (k0_pay10 (V m c main_v1)) := by
  refine (dats m 0 c).arrAt_eq_of_after_last 8 t0_0 (by decide +kernel) _ fun j => ?_
  blk_simp
  rw [after0_8]
  frame_out
  rw [whole3, whole0, whole4, whole6, whole1]

/-- The third result: the largest magnitude of the gradient. -/
theorem final9 (c : Dev nD) : (dats m 0 c).arrAt 9 (cfgs 0).N = k0_pay2 (k0_pay5 (V m c main_v3)) := by
  refine (dats m 0 c).arrAt_eq_of_after_last 9 t0_0 (by decide +kernel) _ fun j => ?_
  blk_simp
  rw [after0_9]
  frame_out
  rw [whole3]

/-- The fourth result: the codes of the gradient. -/
theorem final10 (c : Dev nD) : (dats m 0 c).arrAt 10 (cfgs 0).N = k0_pay6 (V m c main_v3) (V m c main_v0) := by
  refine (dats m 0 c).arrAt_eq_of_after_last 10 t0_0 (by decide +kernel) _ fun j => ?_
  blk_simp
  rw [after0_10]
  frame_out
  rw [whole3, whole0]

end Cert.ReferenceIdeal.Hand

end
-- ==== Proof.Algebraic.lean ====
module

public import proofs.«01_k».proof.Defs
public import proofs.«01_k».proof.Proof.KernelValue
public import proofs.«01_k».proof.Proof.ReferenceValue
public import Idealize.ShloMosaic.Lib.Claim

@[expose] public section

set_option maxRecDepth 16384

noncomputable section

/-! The value claim: over the extended reals the kernel and the reference end with equal results, all four of them. -/

namespace Cert.Proof

open Idealize.ShloMosaic Idealize.ShloMosaic.TcCoe Idealize.SL.Sem

/-- Every execution of the kernel ends with each window's array at what the write-backs leave in it. -/
theorem run_kernel (m : (ℓ : Loc Cert.KernelIdeal.nD Cert.KernelIdeal.τ Cert.KernelIdeal.sig) → Buf (Elt Ideal) ℓ)
    (g : Dev Cert.KernelIdeal.nD → PrngReg) :
    θ_run Cert.KernelIdeal.defs (onTc (τ := Cert.KernelIdeal.τ) (Cert.KernelIdeal.main (F := Ideal))) ⟨m, fun _ => 0, g⟩
      (Pipeline.FramePost Cert.KernelIdeal.cfgs (Cert.KernelIdeal.Hand.dats m) 0 (Cert.KernelIdeal.Gen.V m)) :=
  (θ_run _ _ _).mono (fun _ h => h.1) (Cert.KernelIdeal.Hand.run_main_quiescent m g)

/-! Arrays the two host lines compute before the call are equal when the arguments are: the scales as 1×1 arrays, the
    gradient and the activations with their tokens in one axis. -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The gradient's scale. -/
theorem entry_v0 (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Gen.V m' c Cert.ReferenceIdeal.main_v0 : Vec Ideal Cert.KernelIdeal.S1x1 .f32)
      = Cert.KernelIdeal.Gen.V m c Cert.KernelIdeal.main_v0 := by
  entry_read
  rw [h]
  rfl

/-- The activations' scale. -/
theorem entry_v1 (c : Dev Cert.KernelIdeal.nD)
    (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    (Cert.ReferenceIdeal.Gen.V m' c Cert.ReferenceIdeal.main_v1 : Vec Ideal Cert.KernelIdeal.S1x1 .f32)
      = Cert.KernelIdeal.Gen.V m c Cert.KernelIdeal.main_v1 := by
  entry_read
  rw [h]
  rfl

/-- The weight's scale. -/
theorem entry_v2 (c : Dev Cert.KernelIdeal.nD)
    (h : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    (Cert.ReferenceIdeal.Gen.V m' c Cert.ReferenceIdeal.main_v2 : Vec Ideal Cert.KernelIdeal.S1x1 .f32)
      = Cert.KernelIdeal.Gen.V m c Cert.KernelIdeal.main_v2 := by
  entry_read
  rw [h]
  rfl

/-- The gradient. -/
theorem entry_v3 (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Gen.V m' c Cert.ReferenceIdeal.main_v3 : Vec Ideal Cert.KernelIdeal.S1536x1024 .bf16)
      = Cert.KernelIdeal.Gen.V m c Cert.KernelIdeal.main_v3 := by
  entry_read
  rw [h]
  rfl

/-- The activations. -/
theorem entry_v4 (c : Dev Cert.KernelIdeal.nD)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Gen.V m' c Cert.ReferenceIdeal.main_v4 : Vec Ideal Cert.KernelIdeal.S1536x5120 .fp8e4m3)
      = Cert.KernelIdeal.Gen.V m c Cert.KernelIdeal.main_v4 := by
  entry_read
  rw [h]
  rfl

/-- The weight. -/
theorem entry_arg4 (c : Dev Cert.KernelIdeal.nD)
    (h : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    (Cert.ReferenceIdeal.Gen.V m' c Cert.ReferenceIdeal.main_arg4 : Vec Ideal Cert.KernelIdeal.S1024x5120 .fp8e4m3)
      = Cert.KernelIdeal.Gen.V m c Cert.KernelIdeal.main_arg4 := by
  rw [Cert.ReferenceIdeal.Gen.V_main_arg4, Cert.KernelIdeal.Gen.V_main_arg4, h]

/-- The accumulated weight gradient. -/
theorem entry_arg6 (c : Dev Cert.KernelIdeal.nD)
    (h : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    (Cert.ReferenceIdeal.Gen.V m' c Cert.ReferenceIdeal.main_arg6 : Vec Ideal Cert.KernelIdeal.S1024x5120 .f32)
      = Cert.KernelIdeal.Gen.V m c Cert.KernelIdeal.main_arg6 := by
  rw [Cert.ReferenceIdeal.Gen.V_main_arg6, Cert.KernelIdeal.Gen.V_main_arg6, h]

/-! The four results, as functions of the arrays the kernel's call is given. -/

/-- The first result both programs compute: the codes times the weight, scaled. -/
def res0 (c : Dev Cert.KernelIdeal.nD) : Vec Ideal Cert.KernelIdeal.S1536x5120 .bf16 :=
  Cert.ReferenceIdeal.Gen.k0_pay8 (Cert.KernelIdeal.Gen.V m c Cert.KernelIdeal.main_v3 : Vec Ideal Cert.KernelIdeal.S1536x1024 .bf16) (Cert.KernelIdeal.Gen.V m c Cert.KernelIdeal.main_v0 : Vec Ideal Cert.KernelIdeal.S1x1 .f32)
    (Cert.KernelIdeal.Gen.V m c Cert.KernelIdeal.main_arg4 : Vec Ideal Cert.KernelIdeal.S1024x5120 .fp8e4m3) (Cert.KernelIdeal.Gen.V m c Cert.KernelIdeal.main_v2 : Vec Ideal Cert.KernelIdeal.S1x1 .f32)

/-- The second: the accumulated weight gradient plus the codes times the activations over the tokens, scaled. -/
def res1 (c : Dev Cert.KernelIdeal.nD) : Vec Ideal Cert.KernelIdeal.S1024x5120 .f32 :=
  Cert.ReferenceIdeal.Gen.k0_pay1 (Cert.ReferenceIdeal.Gen.k0_pay3 (Cert.KernelIdeal.Gen.V m c Cert.KernelIdeal.main_v0 : Vec Ideal Cert.KernelIdeal.S1x1 .f32))
    (Cert.ReferenceIdeal.Gen.k0_pay9 (Cert.KernelIdeal.Gen.V m c Cert.KernelIdeal.main_v3 : Vec Ideal Cert.KernelIdeal.S1536x1024 .bf16) (Cert.KernelIdeal.Gen.V m c Cert.KernelIdeal.main_v0 : Vec Ideal Cert.KernelIdeal.S1x1 .f32)
      (Cert.KernelIdeal.Gen.V m c Cert.KernelIdeal.main_v4 : Vec Ideal Cert.KernelIdeal.S1536x5120 .fp8e4m3))
    (Cert.KernelIdeal.Gen.V m c Cert.KernelIdeal.main_arg6 : Vec Ideal Cert.KernelIdeal.S1024x5120 .f32) (Cert.ReferenceIdeal.Gen.k0_pay10 (Cert.KernelIdeal.Gen.V m c Cert.KernelIdeal.main_v1 : Vec Ideal Cert.KernelIdeal.S1x1 .f32))

/-- The third: the largest magnitude of the gradient. -/
def res2 (c : Dev Cert.KernelIdeal.nD) : Vec Ideal Cert.KernelIdeal.S1x1 .f32 :=
  Cert.ReferenceIdeal.Gen.k0_pay2 (Cert.ReferenceIdeal.Gen.k0_pay5 (Cert.KernelIdeal.Gen.V m c Cert.KernelIdeal.main_v3 : Vec Ideal Cert.KernelIdeal.S1536x1024 .bf16))

/-- The fourth: the codes of the gradient. -/
def res3 (c : Dev Cert.KernelIdeal.nD) : Vec Ideal Cert.KernelIdeal.S1536x1024 .fp8e5m2 :=
  Cert.ReferenceIdeal.Gen.k0_pay6 (Cert.KernelIdeal.Gen.V m c Cert.KernelIdeal.main_v3 : Vec Ideal Cert.KernelIdeal.S1536x1024 .bf16) (Cert.KernelIdeal.Gen.V m c Cert.KernelIdeal.main_v0 : Vec Ideal Cert.KernelIdeal.S1x1 .f32)

/-- The kernel ends with the four results and unchanged arguments. -/
theorem kernel_results (g : Dev Cert.KernelIdeal.nD → PrngReg) :
    θ_run Cert.KernelIdeal.defs (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5_0) = res0 m c
      ∧ r.2.mem ((c.tc : Thread Cert.KernelIdeal.nD Cert.KernelIdeal.τ).loc Cert.KernelIdeal.main_v5_1) = res1 m c
      ∧ r.2.mem ((c.tc : Thread Cert.KernelIdeal.nD Cert.KernelIdeal.τ).loc Cert.KernelIdeal.main_v5_2) = res2 m c
      ∧ r.2.mem ((c.tc : Thread Cert.KernelIdeal.nD Cert.KernelIdeal.τ).loc Cert.KernelIdeal.main_v5_3) = res3 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  refine (θ_run _ _ _).mono (fun r h c => ?_) (θ_run_and (run_kernel m g) (Cert.KernelIdeal.Hand.frame m g))
  obtain ⟨a0, a1, a2, a3, a4, a5, a6⟩ := h.2.1 c
  exact ⟨((h.1 c).1 7).trans (Cert.KernelIdeal.Hand.final7 m c), ((h.1 c).1 8).trans (Cert.KernelIdeal.Hand.final8 m c),
    ((h.1 c).1 9).trans (Cert.KernelIdeal.Hand.final9 m c), ((h.1 c).1 10).trans (Cert.KernelIdeal.Hand.final10 m c), a0, a1, a2, a3, a4, a5, a6⟩

/-- From a memory with the same arguments the reference ends with the same four results and unchanged arguments. -/
theorem reference_results (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    θ_run Cert.ReferenceIdeal.defs (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v5_0) = res0 m c
      ∧ r.2.mem ((c.tc : Thread Cert.ReferenceIdeal.nD Cert.ReferenceIdeal.τ).loc Cert.ReferenceIdeal.main_v5_1) = res1 m c
      ∧ r.2.mem ((c.tc : Thread Cert.ReferenceIdeal.nD Cert.ReferenceIdeal.τ).loc Cert.ReferenceIdeal.main_v5_2) = res2 m c
      ∧ r.2.mem ((c.tc : Thread Cert.ReferenceIdeal.nD Cert.ReferenceIdeal.τ).loc Cert.ReferenceIdeal.main_v5_3) = res3 m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) := by
  refine (θ_run _ _ _).mono (fun r h c => ?_) (Cert.ReferenceIdeal.Value.run_blocks m' g')
  obtain ⟨r0, r1, r2, r3, a0, a1, a2, a3, a4, a5, a6⟩ := h c
  obtain ⟨h0, h1, h2, h3, h4, h5, h6⟩ := hagree c
  have f0 := Cert.ReferenceIdeal.Hand.final7 m' c
  have f1 := Cert.ReferenceIdeal.Hand.final8 m' c
  have f2 := Cert.ReferenceIdeal.Hand.final9 m' c
  have f3 := Cert.ReferenceIdeal.Hand.final10 m' c
  rw [entry_v3 m m' c h0, entry_v0 m m' c h1, entry_arg4 m m' c h4, entry_v2 m m' c h5] at f0
  rw [entry_v3 m m' c h0, entry_v0 m m' c h1, entry_v4 m m' c h2, entry_arg6 m m' c h6, entry_v1 m m' c h3] at f1
  rw [entry_v3 m m' c h0] at f2
  rw [entry_v3 m m' c h0, entry_v0 m m' c h1] at f3
  exact ⟨r0.trans f0, r1.trans f1, r2.trans f2, r3.trans f3, a0, a1, a2, a3, a4, a5, a6⟩

/-- From memories equal on the arguments the kernel and the reference end with equal results and unchanged arguments. -/
theorem algebraic : Cert.algebraic_KernelIdeal_ReferenceIdeal (hKernelIdeal := Cert.KernelIdeal.Gen.facts)
    (hReferenceIdeal := Cert.ReferenceIdeal.Gen.facts) :=
  fun m g m' g' _ hagree => ⟨res0 m, res1 m, res2 m, res3 m, kernel_results m g, reference_results m m' g' hagree⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims: three frames, the ideal program is the kernel's own text, and the two programs' results are equal. -/
theorem claim : Cert.Claim := ⟨Cert.Kernel.Gen.facts, Cert.KernelIdeal.Gen.facts, Cert.ReferenceIdeal.Gen.facts,
  kernel_frame,
  fun m ρ _ => Cert.KernelIdeal.Hand.frame m ρ,
  fun m ρ _ => Cert.ReferenceIdeal.Gen.frame m ρ,
  trivial, algebraic⟩

end Cert.Proof

end
